-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S512x256x128 : Shape := ⟨3, ![512, 256, 128]⟩
abbrev S1x1 : Shape := ⟨2, ![1, 1]⟩
abbrev S1024x1 : Shape := ⟨2, ![1024, 1]⟩
abbrev S32x256x128 : Shape := ⟨3, ![32, 256, 128]⟩
abbrev S1x256x128 : Shape := ⟨3, ![1, 256, 128]⟩
abbrev S256x128 : Shape := ⟨2, ![256, 128]⟩
abbrev S1024x128 : Shape := ⟨2, ![1024, 128]⟩
abbrev S128x256 : Shape := ⟨2, ![128, 256]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S512x256x128, .f32⟩
  | .hbm, ⟨2, _⟩ => ⟨S1024x256, .bf16⟩
  | .hbm, ⟨3, _⟩ => ⟨S1x1, .f32⟩
  | .hbm, ⟨4, _⟩ => ⟨S1024x1, .i32⟩
  | .hbm, ⟨5, _⟩ => ⟨S1024x256, .f32⟩
  | .hbm, ⟨6, _⟩ => ⟨S_, .f32⟩
  | .hbm, ⟨7, _⟩ => ⟨S1024, .i32⟩
  | .local _ .vmem, ⟨0, _⟩ => ⟨S1024x256, .f32⟩
  | .local _ .vmem, ⟨1, _⟩ => ⟨S32x256x128, .f32⟩
  | .local _ .vmem, ⟨2, _⟩ => ⟨S32x256x128, .f32⟩
  | .local _ .vmem, ⟨3, _⟩ => ⟨S1024x256, .bf16⟩
  | .local _ .vmem, ⟨4, _⟩ => ⟨S1x1, .f32⟩
  | .local _ .vmem, ⟨5, _⟩ => ⟨S1024x1, .i32⟩
  | .local _ .vmem, ⟨6, _⟩ => ⟨S1024x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_192 : BitVec 32 := 0#32
  let v604 : BitVec 1 := Scalar.cmpi .eq arg0 c0_i32_192
  let v605 : BitVec 32 := Scalar.extui v604
  let c0_i32_193 : BitVec 32 := 0#32
  let v606 : BitVec 1 := Scalar.cmpi .ne v605 c0_i32_193
  v606

def k0_cond2 (i : grid0.Coords) : BitVec 1 :=
  let arg0 : BitVec 32 := BitVec.ofNat 32 (i 0).val
  let c0_i32_194 : BitVec 32 := 0#32
  let v607 : BitVec 1 := Scalar.cmpi .sgt arg0 c0_i32_194
  let v608 : BitVec 32 := Scalar.extui v607
  let c0_i32_195 : BitVec 32 := 0#32
  let v609 : BitVec 1 := Scalar.cmpi .ne v608 c0_i32_195
  v609

def k0_cond3 (i : grid0.Coords) : BitVec 1 :=
  let arg0 : BitVec 32 := BitVec.ofNat 32 (i 0).val
  let c15_i32_196 : BitVec 32 := 15#32
  let v610 : BitVec 1 := Scalar.cmpi .eq arg0 c15_i32_196
  let v611 : BitVec 32 := Scalar.extui v610
  let c0_i32_197 : BitVec 32 := 0#32
  let v612 : BitVec 1 := Scalar.cmpi .ne v611 c0_i32_197
  v612

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x256 : Shape := ⟨2, ![1024, 256]⟩
abbrev S512x256x128 : Shape := ⟨3, ![512, 256, 128]⟩
abbrev S1024x512x128 : Shape := ⟨3, ![1024, 512, 128]⟩
abbrev S512x1024x128 : Shape := ⟨3, ![512, 1024, 128]⟩
abbrev S512x1024x256 : Shape := ⟨3, ![512, 1024, 256]⟩
abbrev S1x1024x256 : Shape := ⟨3, ![1, 1024, 256]⟩
abbrev S_ : Shape := ⟨0, ![]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x256x128 : Shape := ⟨3, ![1024, 256, 128]⟩
abbrev S1024x128 : Shape := ⟨2, ![1024, 128]⟩

abbrev nBuf : Space → Nat
  | .hbm => 50
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S512x256x128, .f32⟩
  | .hbm, ⟨2, _⟩ => ⟨S1024x512x128, .f32⟩
  | .hbm, ⟨3, _⟩ => ⟨S512x1024x128, .f32⟩
  | .hbm, ⟨4, _⟩ => ⟨S512x1024x256, .f32⟩
  | .hbm, ⟨5, _⟩ => ⟨S1x1024x256, .f32⟩
  | .hbm, ⟨6, _⟩ => ⟨S512x1024x256, .f32⟩
  | .hbm, ⟨7, _⟩ => ⟨S512x1024x256, .f32⟩
  | .hbm, ⟨8, _⟩ => ⟨S512x1024x256, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .i32⟩
  | .hbm, ⟨13, _⟩ => ⟨S_, .f32⟩
  | .hbm, ⟨14, _⟩ => ⟨S_, .i32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1, .i32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S1x1, .i32⟩
  | .hbm, ⟨30, _⟩ => ⟨S1024x1, .i32⟩
  | .hbm, ⟨31, _⟩ => ⟨S1024x1, .i1⟩
  | .hbm, ⟨32, _⟩ => ⟨S1024x1, .i1⟩
  | .hbm, ⟨33, _⟩ => ⟨S_, .i1⟩
  | .hbm, ⟨34, _⟩ => ⟨S1024, .i1⟩
  | .hbm, ⟨35, _⟩ => ⟨S1024x256x128, .f32⟩
  | .hbm, ⟨36, _⟩ => ⟨S1024x256x128, .i1⟩
  | .hbm, ⟨37, _⟩ => ⟨S_, .f32⟩
  | .hbm, ⟨38, _⟩ => ⟨S1024x256x128, .f32⟩
  | .hbm, ⟨39, _⟩ => ⟨S1024x256x128, .f32⟩
  | .hbm, ⟨40, _⟩ => ⟨S1024x128, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v6 : Ref sig .tc := ⟨.hbm, 11, rfl⟩
abbrev main_call1_v0 : Ref sig .tc := ⟨.hbm, 12, rfl⟩
abbrev main_call1_cst : Ref sig .tc := ⟨.hbm, 13, rfl⟩
abbrev main_call1_c : Ref sig .tc := ⟨.hbm, 14, rfl⟩
abbrev main_call1_v1_0 : Ref sig .tc := ⟨.hbm, 15, rfl⟩
abbrev main_v7 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_v14 : Ref sig .tc := ⟨.hbm, 36, rfl⟩
abbrev main_call2_cst : Ref sig .tc := ⟨.hbm, 37, rfl⟩
abbrev main_call2_v15 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst : Ref sig .tc := ⟨.hbm, 44, rfl⟩
abbrev main_v13 : Ref sig .tc := ⟨.hbm, 45, rfl⟩
abbrev main_cst_0 : Ref sig .tc := ⟨.hbm, 46, rfl⟩
abbrev main_v14 : Ref sig .tc := ⟨.hbm, 47, rfl⟩
abbrev main_cst_1 : Ref sig .tc := ⟨.hbm, 48, rfl⟩
abbrev main_v15 : Ref sig .tc := ⟨.hbm, 49, rfl⟩

abbrev nD : Nat := 1
abbrev τ : Topo := Topo.v7x

variable {F : FTy → Type} [FloatOps F]
-- ==== Proof.RefRun.lean ====
/-
  The run of the reference: a straight line of host operations, no kernel. What every buffer of interest ends
  holding is stated as a composition of the operations, in the order the reference names them.
-/
module

public import proofs.«01_k».proof.Defs
public import proofs.«01_k».proof.Proof.Gen.ReferenceIdeal
public import Idealize.ShloMosaic.Lib.StableHlo.Run
public import Idealize.ShloMosaic.Lib.Claim
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The points, as the reference takes them. -/
abbrev XArr (F : FTy → Type) := (⟨S1024x256, .f32⟩ : BufTy).Contents (Elt F)
/-- The dictionaries. -/
abbrev DArr (F : FTy → Type) := (⟨S512x256x128, .f32⟩ : BufTy).Contents (Elt F)

/-- Every point projected on every dictionary, less the point. -/
def residual (x : XArr F) (D : DArr F) : FVec F S512x1024x256 .f32 :=
  subf
    (Host.dotGeneral dot_S512x1024x128_S512x256x128_S512x1024x256_2_2_1_1_0_0 none
      (transpose S512x1024x128 [1, 0, 2]
        (Host.dotGeneral dot_S1024x256_S512x256x128_S1024x512x128_1_1_0_02_n_n none x D)
        transposes_S1024x512x128_S512x1024x128_1_0_2) D)
    (broadcastInDim S512x1024x256 ![0, 1, 2] bcast_S1x1024x256_S512x1024x256_0_1_2
      (broadcastInDim S1x1024x256 ![1, 2] bcast_S1024x256_S1x1024x256_1_2 x))

/-- The distance of every point from every subspace. -/
def dist (x : XArr F) (D : DArr F) : FVec F S512x1024 .f32 :=
  Host.sqrt (Host.reduceAdd (mulf (residual x D) (residual x D)) (constant S_ .f32 0x00000000#32)
    reducesTo_S512x1024x256_S512x1024_d2 h_S_)

/-- The nearest subspace of every point. -/
def label (x : XArr F) (D : DArr F) : IVec S1024 32 := fun j =>
  (Host.argReduce reducer_argmin_f32_i32 (dist x D) (iotaInDim S512x1024 32 0) (constant S_ .f32 0x7F800000#32)
    (constantI S_ 32 0#32) reducesTo_S512x1024_S1024_d0 h_S_ j).2

/-- A label counted from the end when it is negative. -/
def wrapped (l : IVec S1024 32) : IVec S1024x1 32 :=
  broadcastInDim S1024x1 ![0] bcast_S1024_S1024x1_0
    (select (cmpi .slt l (broadcastInDim S1024 ![] bcast_S_S1024 (constantI S_ 32 0#32)))
      (addi l (broadcastInDim S1024 ![] bcast_S_S1024 (constantI S_ 32 512#32))) l)

/-- Whether a label names a dictionary. -/
def inside (l : IVec S1024 32) : IVec S1024 1 :=
  Host.reduce IntOp.andi
    (andi (cmpi .sge (wrapped l) (broadcastInDim S1024x1 ![] bcast_S_S1024x1 (constantI S_ 32 0#32)))
      (cmpi .sle (wrapped l) (broadcastInDim S1024x1 ![0, 1] bcast_S1x1_S1024x1_0_1
        (broadcastInDim S1x1 ![1] bcast_S1_S1x1_1 (constantI S1 32 511#32)))))
    (constantI S_ 1 1#1) reducesTo_S1024x1_S1024_d1 h_S_

/-- The dictionary each label names. -/
def taken (D : DArr F) (l : IVec S1024 32) : FVec F S1024x256x128 .f32 :=
  select (broadcastInDim S1024x256x128 ![0] bcast_S1024_S1024x256x128_0 (inside l))
    (Host.gather gather_S512x256x128_S1024x1_S1024x256x128_12_0_n_n_0_1_1256128 D (wrapped l))
    (broadcastInDim S1024x256x128 ![] bcast_S_S1024x256x128 (constant S_ .f32 0x7FC00000#32))

/-- Every point projected on its own dictionary `S`. -/
def rebuilt (x : XArr F) (S : FVec F S1024x256x128 .f32) : FVec F S1024x256 .f32 :=
  Host.dotGeneral dot_S1024x256x128_S1024x128_S1024x256_2_1_1_n_0_0 none S
    (Host.dotGeneral dot_S1024x256x128_S1024x256_S1024x128_1_1_2_n_0_0 none S x)

/-- The mean square of the residual. -/
def meanLoss (x : XArr F) (r : FVec F S1024x256 .f32) : FVec F S_ .f32 :=
  mulf (Host.divf (Host.reduceAdd (mulf (subf r x) (subf r x)) (constant S_ .f32 0x00000000#32)
      reducesTo_S1024x256_S_d0_1 h_S_) (constant S_ .f32 0x48800000#32)) (constant S_ .f32 0x3F800000#32)

/-- The reference's first result. -/
def outX (x : XArr F) (D : DArr F) : FVec F S1024x256 .f32 := rebuilt x (taken D (label x D))
/-- The reference's second result. -/
def outL (x : XArr F) (D : DArr F) : FVec F S_ .f32 := meanLoss x (outX x D)

/-- What the reference ends holding, from any memory with zero counters. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v10)
            = outX (m ((c.tc : Thread nD τ).loc main_arg0)) (m ((c.tc : Thread nD τ).loc main_arg1))
        ∧ r.2.mem ((c.tc : Thread nD τ).loc main_v15)
            = outL (m ((c.tc : Thread nD τ).loc main_arg0)) (m ((c.tc : Thread nD τ).loc main_arg1))
        ∧ r.2.mem ((c.tc : Thread nD τ).loc main_v7)
            = label (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  · simp only [TRef.ofBuf_toBuf]; unfold outX rebuilt taken inside wrapped label dist residual; rfl
  · simp only [TRef.ofBuf_toBuf]; unfold outL meanLoss outX rebuilt taken inside wrapped label dist residual; rfl
  · simp only [TRef.ofBuf_toBuf]; unfold label dist residual; rfl

/-- The reference leaves its arguments alone; it has no semaphore. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r hr => ⟨fun c => (hr c).2.2.2, sem_eq_zero_of_no_sems (by decide) _⟩

end Cert.Proof.Ref

end
-- ==== Proof.Block.lean ====
/-
  One grid point's block: thirty-two dictionaries tried in turn. The body's text is unrolled and cut into windows by
  count; here it is one recursion on the number of dictionaries tried, and the body's stored values are that recursion
  at the last dictionary.
-/
module

public import proofs.«01_k».proof.Proof.Gen.KernelIdeal.Frame
public import Idealize.ShloMosaic.Lib.VecWindow
public import Idealize.ShloMosaic.Lib.Pipeline.Value

@[expose] public section

set_option maxRecDepth 16384

noncomputable section

namespace Cert.Proof.Block

open Cert.KernelIdeal Cert.KernelIdeal.Gen
open Idealize.ShloMosaic Idealize.ShloMosaic.TcCoe Idealize.SL.Sem

variable {F : FTy → Type} [FloatOps F]

/-- The points projected on one dictionary. -/
def xhat (x : Vec F S1024x256 .f32) (d : Vec F S1x256x128 .f32) : FVec F S1024x256 .f32 :=
  matmul dot_S1024x128_S128x256_S1024x256_1_0_0_1_n_n none
    (matmul dot_S1024x256_S256x128_S1024x128_1_0_0_1_n_n none x
      (shapeCast S256x128 d shapeCasts_S1x256x128_S256x128) (constant S1024x128 .f32 0x00000000#32))
    (transpose S128x256 [1, 0] (shapeCast S256x128 d shapeCasts_S1x256x128_S256x128)
      transposes_S256x128_p1_0_S128x256)
    (constant S1024x256 .f32 0x00000000#32)

/-- The squared distance of every point from one subspace. -/
def sqdist (x : Vec F S1024x256 .f32) (d : Vec F S1x256x128 .f32) : FVec F S1024x1 .f32 :=
  shapeCast S1024x1
    (multiReduction .add [1] S1024 (mulf (subf (xhat x d) x) (subf (xhat x d) x)) 0x00000000#32
      reduces_S1024x256_S1024 (.inl rfl) rfl) shapeCasts_S1024_S1024x1

/-- A mask over the points spread over their coordinates. -/
def spread (p : IVec S1024x1 1) : IVec S1024x256 1 :=
  broadcastTo S1024x256 (shapeCast S1024x1 p shapeCasts_S1024x1_S1024x1) broadcasts_S1024x1_S1024x256

variable (n : BitVec 32) (x : Vec F S1024x256 .f32) (g : ℕ → Vec F S1x256x128 .f32)

/-- The least squared distance among the dictionaries `0 … k` of the block. -/
def best : ℕ → FVec F S1024x1 .f32
  | 0 => sqdist x (g 0)
  | k + 1 => select (cmpf .olt (sqdist x (g (k + 1))) (best k)) (sqdist x (g (k + 1))) (best k)

/-- The projection kept with it. -/
def kept : ℕ → FVec F S1024x256 .bf16
  | 0 => truncf .bf16 (xhat x (g 0)) bitsLt_bf16_f32
  | k + 1 => select (spread (cmpf .olt (sqdist x (g (k + 1))) (best x g k)))
      (truncf .bf16 (xhat x (g (k + 1))) bitsLt_bf16_f32) (kept k)

/-- The label kept with it. -/
def tag : ℕ → IVec S1024x1 32
  | 0 => addi (broadcast S1024x1 0#32) (broadcast S1024x1 (Scalar.muli 32#32 n))
  | k + 1 => select (cmpf .olt (sqdist x (g (k + 1))) (best x g k))
      (broadcast S1024x1 (Scalar.addi (Scalar.muli 32#32 n) (BitVec.ofNat 32 (k + 1)))) (tag k)

/-- Dictionary `j` of the block lies inside it. -/
theorem slab_inb (j : ℕ) : ∀ a : Fin 3, (![j % 32, 0, 0] : Fin 3 → ℕ) a + S1x256x128.size a ≤ S32x256x128.size a := by
  intro a
  have := Nat.mod_lt j (show 0 < 32 by decide)
  match a with
  | 0 => show j % 32 + 1 ≤ 32; omega
  | 1 => exact Nat.le_refl 256
  | 2 => exact Nat.le_refl 128

/-- Dictionary `j` of the block. -/
def slab (x1 : Vec F S32x256x128 .f32) (j : ℕ) : Vec F S1x256x128 .f32 :=
  View.ld x1 (Rect.unit (s := S32x256x128) ![j % 32, 0, 0] S1x256x128.size (slab_inb j))

/-- The same, read through the body's window. -/
theorem slab_read (arg2 : Memref sig .tc .vmem S32x256x128 .f32) (harg2 : arg2.IsWhole) (x1 : Vec F S32x256x128 .f32) :
    (fun j => View.readAt (Elt F) arg2.view
      (Rect.unit (s := S32x256x128) ![j % 32, 0, 0] S1x256x128.size (slab_inb j)).toLoadRect (harg2.unread x1)) = slab x1 := by
  funext j
  rw [View.readAt_eq_ld, Memref.IsWhole.read_unread]; rfl

/-- The whole of a window, read through it. -/
theorem whole_read {sp : Space} {s : Shape} {e : EltTy} (r : Memref sig .tc sp s e) (h : r.IsWhole) (X : s.Idx → Elt F e)
    {off : Fin s.rank → ℕ} (inb : ∀ a, off a + s.size a ≤ s.size a) :
    View.readAt (Elt F) r.view (Rect.unit off s.size inb).toLoadRect (h.unread X) = X := by
  rw [View.readAt_full, Memref.IsWhole.read_unread]

/-- The least distance after the block, given the least before it. -/
def best' (x : Vec F S1024x256 .f32) (d : Vec F S32x256x128 .f32) (b : Vec F S1024x1 .f32) : Vec F S1024x1 .f32 :=
  select (cmpf .olt (best x (slab d) 31) b) (best x (slab d) 31) b

/-- The projection kept after the block. -/
def kept' (x : Vec F S1024x256 .f32) (d : Vec F S32x256x128 .f32) (b : Vec F S1024x1 .f32) (p : Vec F S1024x256 .bf16) :
    Vec F S1024x256 .bf16 :=
  select (spread (cmpf .olt (best x (slab d) 31) b)) (kept x (slab d) 31) p

/-- The label kept after the block. -/
def tag' (n : BitVec 32) (x : Vec F S1024x256 .f32) (d : Vec F S32x256x128 .f32) (b : Vec F S1024x1 .f32)
    (l : Vec F S1024x1 .i32) : Vec F S1024x1 .i32 :=
  select (cmpf .olt (best x (slab d) 31) b) (tag n x (slab d) 31) l

section Stored
variable (c : Dev nD) (i : grid0.Coords) (arg1 : Memref sig .tc .vmem S1024x256 .f32) (harg1 : arg1.IsWhole)
  (arg2 : Memref sig .tc .vmem S32x256x128 .f32) (harg2 : arg2.IsWhole)
  (arg3 : Memref sig .tc .vmem S1024x256 .bf16) (harg3 : arg3.IsWhole) (arg4 : Memref sig .tc .vmem S1x1 .f32) (harg4 : arg4.IsWhole)
  (arg5 : Memref sig .tc .vmem S1024x1 .i32) (harg5 : arg5.IsWhole) (arg6 : Memref sig .tc .vmem S1024x1 .f32) (harg6 : arg6.IsWhole)
  (x0 : Vec F S1024x256 .f32) (x1 : Vec F S32x256x128 .f32) (xo2 : Vec F S1024x256 .bf16) (xo4 : Vec F S1024x1 .i32)
  (xs0 : Vec F S1024x1 .f32)

/-- The points, as the body reads them. -/
abbrev rx : Vec F S1024x256 .f32 :=
  View.readAt (Elt F) arg1.view (Rect.unit ![0, 0] S1024x256.size inb_S1024x256_S1024x256_0_0).toLoadRect (harg1.unread x0)

/-- The dictionaries of the block, as the body reads them. -/
abbrev rg : ℕ → Vec F S1x256x128 .f32 := fun j => View.readAt (Elt F) arg2.view
  (Rect.unit (s := S32x256x128) ![j % 32, 0, 0] S1x256x128.size (slab_inb j)).toLoadRect (harg2.unread x1)

/-- A column, as the body reads it. -/
abbrev rc {e : EltTy} (r : Memref sig .tc .vmem S1024x1 e) (h : r.IsWhole) (X : Vec F S1024x1 e) : Vec F S1024x1 e :=
  View.readAt (Elt F) r.view (Rect.unit ![0, 0] S1024x1.size inb_S1024x1_S1024x1_0_0).toLoadRect (h.unread X)

/-- The projections, as the body reads them. -/
abbrev rp {e : EltTy} (r : Memref sig .tc .vmem S1024x256 e) (h : r.IsWhole) (X : Vec F S1024x256 e) : Vec F S1024x256 e :=
  View.readAt (Elt F) r.view (Rect.unit ![0, 0] S1024x256.size inb_S1024x256_S1024x256_0_0).toLoadRect (h.unread X)

/-- The sum of a column, scaled: the loss the last point stores. -/
def total (b : Vec F S1024x1 .f32) : FVec F S1x1 .f32 := k0_pay12 b

theorem best_first : k0_pay4 (kernelRun0_A.sl.r c arg1 harg1 x0) (kernelRun0_A.sl.r_61 c arg1 harg1 arg2 harg2 x0 x1) (kernelRun0_A.sl.r_64 c arg2 harg2 x1)
    = best (rx arg1 harg1 x0) (rg arg2 harg2 x1) 31 := rfl

theorem kept_first : k0_pay5 (kernelRun0_A.sl.r c arg1 harg1 x0) (kernelRun0_A.sl.r_61 c arg1 harg1 arg2 harg2 x0 x1)
      (kernelRun0_A.sl.r_62 c arg1 harg1 arg2 harg2 x0 x1) (kernelRun0_A.sl.r_64 c arg2 harg2 x1)
    = kept (rx arg1 harg1 x0) (rg arg2 harg2 x1) 31 := rfl

theorem tag_first : k0_pay6 (BitVec.ofNat 32 (i 0).val) (kernelRun0_A.sl.r c arg1 harg1 x0)
      (kernelRun0_A.sl.r_61 c arg1 harg1 arg2 harg2 x0 x1) (kernelRun0_A.sl.r_63 c i arg1 harg1 arg2 harg2 x0 x1)
      (kernelRun0_A.sl.r_64 c arg2 harg2 x1)
    = tag (BitVec.ofNat 32 (i 0).val) (rx arg1 harg1 x0) (rg arg2 harg2 x1) 31 := rfl

theorem best_middle : k0_pay4 (kernelRun0_B.sl.r c arg1 harg1 x0) (kernelRun0_B.sl.r_61 c arg1 harg1 arg2 harg2 x0 x1) (kernelRun0_B.sl.r_64 c arg2 harg2 x1)
    = best (rx arg1 harg1 x0) (rg arg2 harg2 x1) 31 := rfl

theorem kept_middle : k0_pay5 (kernelRun0_B.sl.r c arg1 harg1 x0) (kernelRun0_B.sl.r_61 c arg1 harg1 arg2 harg2 x0 x1)
      (kernelRun0_B.sl.r_62 c arg1 harg1 arg2 harg2 x0 x1) (kernelRun0_B.sl.r_64 c arg2 harg2 x1)
    = kept (rx arg1 harg1 x0) (rg arg2 harg2 x1) 31 := rfl

theorem tag_middle : k0_pay6 (BitVec.ofNat 32 (i 0).val) (kernelRun0_B.sl.r c arg1 harg1 x0)
      (kernelRun0_B.sl.r_61 c arg1 harg1 arg2 harg2 x0 x1) (kernelRun0_B.sl.r_63 c i arg1 harg1 arg2 harg2 x0 x1)
      (kernelRun0_B.sl.r_64 c arg2 harg2 x1)
    = tag (BitVec.ofNat 32 (i 0).val) (rx arg1 harg1 x0) (rg arg2 harg2 x1) 31 := rfl

theorem best_last : k0_pay4 (kernelRun0_C.sl.r c arg1 harg1 x0) (kernelRun0_C.sl.r_61 c arg1 harg1 arg2 harg2 x0 x1) (kernelRun0_C.sl.r_64 c arg2 harg2 x1)
    = best (rx arg1 harg1 x0) (rg arg2 harg2 x1) 31 := rfl

theorem kept_last : k0_pay5 (kernelRun0_C.sl.r c arg1 harg1 x0) (kernelRun0_C.sl.r_61 c arg1 harg1 arg2 harg2 x0 x1)
      (kernelRun0_C.sl.r_62 c arg1 harg1 arg2 harg2 x0 x1) (kernelRun0_C.sl.r_64 c arg2 harg2 x1)
    = kept (rx arg1 harg1 x0) (rg arg2 harg2 x1) 31 := rfl

theorem tag_last : k0_pay6 (BitVec.ofNat 32 (i 0).val) (kernelRun0_C.sl.r c arg1 harg1 x0)
      (kernelRun0_C.sl.r_61 c arg1 harg1 arg2 harg2 x0 x1) (kernelRun0_C.sl.r_63 c i arg1 harg1 arg2 harg2 x0 x1)
      (kernelRun0_C.sl.r_64 c arg2 harg2 x1)
    = tag (BitVec.ofNat 32 (i 0).val) (rx arg1 harg1 x0) (rg arg2 harg2 x1) 31 := rfl

theorem label_first (hc0 : cond0_0 i) (hc1 : ¬cond0_1 i) (hc2 : ¬cond0_2 i) :
    (kernelRun0_A c i arg1 harg1 arg2 harg2 arg3 harg3 arg4 harg4 arg5 harg5 arg6 harg6 hc0 hc1 hc2 x0 x1).2.2.1
      = [⟨Rect.unit ![0, 0] S1024x1.size inb_S1024x1_S1024x1_0_0, (k0_pay6 (BitVec.ofNat 32 (i 0).val) (kernelRun0_A.sl.r c arg1 harg1 x0)
      (kernelRun0_A.sl.r_61 c arg1 harg1 arg2 harg2 x0 x1) (kernelRun0_A.sl.r_63 c i arg1 harg1 arg2 harg2 x0 x1)
      (kernelRun0_A.sl.r_64 c arg2 harg2 x1))⟩] := rfl

theorem label_middle (hc0 : ¬cond0_0 i) (hc1 : cond0_1 i) (hc2 : ¬cond0_2 i) :
    (kernelRun0_B c i arg1 harg1 arg2 harg2 arg3 harg3 arg4 harg4 arg5 harg5 arg6 harg6 hc0 hc1 hc2 x0 x1 xo2 xo4 xs0).2.2.1
      = [⟨Rect.unit ![0, 0] S1024x1.size inb_S1024x1_S1024x1_0_0, (select
      (cmpf .olt (k0_pay4 (kernelRun0_B.sl.r c arg1 harg1 x0) (kernelRun0_B.sl.r_61 c arg1 harg1 arg2 harg2 x0 x1)
        (kernelRun0_B.sl.r_64 c arg2 harg2 x1)) (rc arg6 harg6 xs0))
      (k0_pay6 (BitVec.ofNat 32 (i 0).val) (kernelRun0_B.sl.r c arg1 harg1 x0)
        (kernelRun0_B.sl.r_61 c arg1 harg1 arg2 harg2 x0 x1) (kernelRun0_B.sl.r_63 c i arg1 harg1 arg2 harg2 x0 x1)
        (kernelRun0_B.sl.r_64 c arg2 harg2 x1))
      (shapeCast S1024x1 (rc arg5 harg5 xo4) shapeCasts_S1024x1_S1024x1))⟩] := rfl

theorem label_last (hc0 : ¬cond0_0 i) (hc1 : cond0_1 i) (hc2 : cond0_2 i) :
    (kernelRun0_C c i arg1 harg1 arg2 harg2 arg3 harg3 arg4 harg4 arg5 harg5 arg6 harg6 hc0 hc1 hc2 x0 x1 xo2 xo4 xs0).2.2.1
      = [⟨Rect.unit ![0, 0] S1024x1.size inb_S1024x1_S1024x1_0_0, (select
      (cmpf .olt (k0_pay4 (kernelRun0_C.sl.r c arg1 harg1 x0) (kernelRun0_C.sl.r_61 c arg1 harg1 arg2 harg2 x0 x1)
        (kernelRun0_C.sl.r_64 c arg2 harg2 x1)) (rc arg6 harg6 xs0))
      (k0_pay6 (BitVec.ofNat 32 (i 0).val) (kernelRun0_C.sl.r c arg1 harg1 x0)
        (kernelRun0_C.sl.r_61 c arg1 harg1 arg2 harg2 x0 x1) (kernelRun0_C.sl.r_63 c i arg1 harg1 arg2 harg2 x0 x1)
        (kernelRun0_C.sl.r_64 c arg2 harg2 x1))
      (shapeCast S1024x1 (rc arg5 harg5 xo4) shapeCasts_S1024x1_S1024x1))⟩] := rfl

theorem row_first (hc0 : cond0_0 i) (hc1 : ¬cond0_1 i) (hc2 : ¬cond0_2 i) :
    (kernelRun0_A c i arg1 harg1 arg2 harg2 arg3 harg3 arg4 harg4 arg5 harg5 arg6 harg6 hc0 hc1 hc2 x0 x1).1
      = [⟨Rect.unit ![0, 0] S1024x256.size inb_S1024x256_S1024x256_0_0, (k0_pay5 (kernelRun0_A.sl.r c arg1 harg1 x0)
      (kernelRun0_A.sl.r_61 c arg1 harg1 arg2 harg2 x0 x1) (kernelRun0_A.sl.r_62 c arg1 harg1 arg2 harg2 x0 x1)
      (kernelRun0_A.sl.r_64 c arg2 harg2 x1))⟩] := rfl

theorem least_first (hc0 : cond0_0 i) (hc1 : ¬cond0_1 i) (hc2 : ¬cond0_2 i) :
    (kernelRun0_A c i arg1 harg1 arg2 harg2 arg3 harg3 arg4 harg4 arg5 harg5 arg6 harg6 hc0 hc1 hc2 x0 x1).2.2.2.1
      = [⟨Rect.unit ![0, 0] S1024x1.size inb_S1024x1_S1024x1_0_0, (shapeCast S1024x1 (k0_pay4 (kernelRun0_A.sl.r c arg1 harg1 x0)
      (kernelRun0_A.sl.r_61 c arg1 harg1 arg2 harg2 x0 x1) (kernelRun0_A.sl.r_64 c arg2 harg2 x1))
      shapeCasts_S1024x1_S1024x1)⟩] := rfl

theorem row_middle (hc0 : ¬cond0_0 i) (hc1 : cond0_1 i) (hc2 : ¬cond0_2 i) :
    (kernelRun0_B c i arg1 harg1 arg2 harg2 arg3 harg3 arg4 harg4 arg5 harg5 arg6 harg6 hc0 hc1 hc2 x0 x1 xo2 xo4 xs0).1
      = [⟨Rect.unit ![0, 0] S1024x256.size inb_S1024x256_S1024x256_0_0, (select
      (spread (cmpf .olt (k0_pay4 (kernelRun0_B.sl.r c arg1 harg1 x0) (kernelRun0_B.sl.r_61 c arg1 harg1 arg2 harg2 x0 x1)
        (kernelRun0_B.sl.r_64 c arg2 harg2 x1)) (rc arg6 harg6 xs0)))
      (k0_pay5 (kernelRun0_B.sl.r c arg1 harg1 x0) (kernelRun0_B.sl.r_61 c arg1 harg1 arg2 harg2 x0 x1)
        (kernelRun0_B.sl.r_62 c arg1 harg1 arg2 harg2 x0 x1) (kernelRun0_B.sl.r_64 c arg2 harg2 x1))
      (shapeCast S1024x256 (rp arg3 harg3 xo2) shapeCasts_S1024x256_S1024x256))⟩] := rfl

theorem least_middle (hc0 : ¬cond0_0 i) (hc1 : cond0_1 i) (hc2 : ¬cond0_2 i) :
    (kernelRun0_B c i arg1 harg1 arg2 harg2 arg3 harg3 arg4 harg4 arg5 harg5 arg6 harg6 hc0 hc1 hc2 x0 x1 xo2 xo4 xs0).2.2.2.1
      = [⟨Rect.unit ![0, 0] S1024x1.size inb_S1024x1_S1024x1_0_0, (shapeCast S1024x1
      (select (cmpf .olt (k0_pay4 (kernelRun0_B.sl.r c arg1 harg1 x0) (kernelRun0_B.sl.r_61 c arg1 harg1 arg2 harg2 x0 x1)
          (kernelRun0_B.sl.r_64 c arg2 harg2 x1)) (rc arg6 harg6 xs0))
        (k0_pay4 (kernelRun0_B.sl.r c arg1 harg1 x0) (kernelRun0_B.sl.r_61 c arg1 harg1 arg2 harg2 x0 x1) (kernelRun0_B.sl.r_64 c arg2 harg2 x1))
        (rc arg6 harg6 xs0)) shapeCasts_S1024x1_S1024x1)⟩] := rfl

theorem row_last (hc0 : ¬cond0_0 i) (hc1 : cond0_1 i) (hc2 : cond0_2 i) :
    (kernelRun0_C c i arg1 harg1 arg2 harg2 arg3 harg3 arg4 harg4 arg5 harg5 arg6 harg6 hc0 hc1 hc2 x0 x1 xo2 xo4 xs0).1
      = [⟨Rect.unit ![0, 0] S1024x256.size inb_S1024x256_S1024x256_0_0, (select
      (spread (cmpf .olt (k0_pay4 (kernelRun0_C.sl.r c arg1 harg1 x0) (kernelRun0_C.sl.r_61 c arg1 harg1 arg2 harg2 x0 x1)
        (kernelRun0_C.sl.r_64 c arg2 harg2 x1)) (rc arg6 harg6 xs0)))
      (k0_pay5 (kernelRun0_C.sl.r c arg1 harg1 x0) (kernelRun0_C.sl.r_61 c arg1 harg1 arg2 harg2 x0 x1)
        (kernelRun0_C.sl.r_62 c arg1 harg1 arg2 harg2 x0 x1) (kernelRun0_C.sl.r_64 c arg2 harg2 x1))
      (shapeCast S1024x256 (rp arg3 harg3 xo2) shapeCasts_S1024x256_S1024x256))⟩] := rfl

theorem least_last (hc0 : ¬cond0_0 i) (hc1 : cond0_1 i) (hc2 : cond0_2 i) :
    (kernelRun0_C c i arg1 harg1 arg2 harg2 arg3 harg3 arg4 harg4 arg5 harg5 arg6 harg6 hc0 hc1 hc2 x0 x1 xo2 xo4 xs0).2.2.2.1
      = [⟨Rect.unit ![0, 0] S1024x1.size inb_S1024x1_S1024x1_0_0, (shapeCast S1024x1
      (select (cmpf .olt (k0_pay4 (kernelRun0_C.sl.r c arg1 harg1 x0) (kernelRun0_C.sl.r_61 c arg1 harg1 arg2 harg2 x0 x1)
          (kernelRun0_C.sl.r_64 c arg2 harg2 x1)) (rc arg6 harg6 xs0))
        (k0_pay4 (kernelRun0_C.sl.r c arg1 harg1 x0) (kernelRun0_C.sl.r_61 c arg1 harg1 arg2 harg2 x0 x1) (kernelRun0_C.sl.r_64 c arg2 harg2 x1))
        (rc arg6 harg6 xs0)) shapeCasts_S1024x1_S1024x1)⟩] := rfl

theorem loss_last (hc0 : ¬cond0_0 i) (hc1 : cond0_1 i) (hc2 : cond0_2 i) :
    (kernelRun0_C c i arg1 harg1 arg2 harg2 arg3 harg3 arg4 harg4 arg5 harg5 arg6 harg6 hc0 hc1 hc2 x0 x1 xo2 xo4 xs0).2.1
      = [⟨Rect.unit ![0, 0] S1x1.size inb_S1x1_S1x1_0_0, (total (View.readCov arg6.view
      [⟨Rect.unit ![0, 0] S1024x1.size inb_S1024x1_S1024x1_0_0, shapeCast S1024x1
      (select (cmpf .olt (k0_pay4 (kernelRun0_C.sl.r c arg1 harg1 x0) (kernelRun0_C.sl.r_61 c arg1 harg1 arg2 harg2 x0 x1)
          (kernelRun0_C.sl.r_64 c arg2 harg2 x1)) (rc arg6 harg6 xs0))
        (k0_pay4 (kernelRun0_C.sl.r c arg1 harg1 x0) (kernelRun0_C.sl.r_61 c arg1 harg1 arg2 harg2 x0 x1) (kernelRun0_C.sl.r_64 c arg2 harg2 x1))
        (rc arg6 harg6 xs0)) shapeCasts_S1024x1_S1024x1⟩]
      (Rect.unit ![0, 0] S1024x1.size inb_S1024x1_S1024x1_0_0).toLoadRect))⟩] := rfl

/-- Every stored value of the first point. -/
theorem first_stored (hc0 : cond0_0 i) (hc1 : ¬cond0_1 i) (hc2 : ¬cond0_2 i) :
    out0_A_2 c i arg1 harg1 arg2 harg2 arg3 harg3 arg4 harg4 arg5 harg5 arg6 harg6 hc0 hc1 hc2 x0 x1 = kept x0 (slab x1) 31 ∧
    out0_A_4 c i arg1 harg1 arg2 harg2 arg3 harg3 arg4 harg4 arg5 harg5 arg6 harg6 hc0 hc1 hc2 x0 x1
      = tag (BitVec.ofNat 32 (i 0).val) x0 (slab x1) 31 ∧
    sout0_A_0 c i arg1 harg1 arg2 harg2 arg3 harg3 arg4 harg4 arg5 harg5 arg6 harg6 hc0 hc1 hc2 x0 x1 = best x0 (slab x1) 31 := by
  have e0 : rx arg1 harg1 x0 = x0 := whole_read arg1 harg1 x0 inb_S1024x256_S1024x256_0_0
  have e1 : rg arg2 harg2 x1 = slab x1 := slab_read arg2 harg2 x1
  refine ⟨?_, ?_, ?_⟩
  · unfold out0_A_2
    rw [row_first, View.read_writes_full]
    rw [kept_first, e0, e1]
  · unfold out0_A_4
    rw [label_first, View.read_writes_full]
    rw [tag_first, e0, e1]
  · unfold sout0_A_0
    rw [least_first, View.read_writes_full]
    rw [shapeCast_self, best_first, e0, e1]

/-- Every stored value of a point that is neither first nor last. -/
theorem middle_stored (hc0 : ¬cond0_0 i) (hc1 : cond0_1 i) (hc2 : ¬cond0_2 i) :
    out0_B_2 c i arg1 harg1 arg2 harg2 arg3 harg3 arg4 harg4 arg5 harg5 arg6 harg6 hc0 hc1 hc2 x0 x1 xo2 xo4 xs0
      = kept' x0 x1 xs0 xo2 ∧
    out0_B_4 c i arg1 harg1 arg2 harg2 arg3 harg3 arg4 harg4 arg5 harg5 arg6 harg6 hc0 hc1 hc2 x0 x1 xo2 xo4 xs0
      = tag' (BitVec.ofNat 32 (i 0).val) x0 x1 xs0 xo4 ∧
    sout0_B_0 c i arg1 harg1 arg2 harg2 arg3 harg3 arg4 harg4 arg5 harg5 arg6 harg6 hc0 hc1 hc2 x0 x1 xo2 xo4 xs0
      = best' x0 x1 xs0 := by
  have e0 : rx arg1 harg1 x0 = x0 := whole_read arg1 harg1 x0 inb_S1024x256_S1024x256_0_0
  have e1 : rg arg2 harg2 x1 = slab x1 := slab_read arg2 harg2 x1
  have e2 : rp arg3 harg3 xo2 = xo2 := whole_read arg3 harg3 xo2 inb_S1024x256_S1024x256_0_0
  have e3 : rc arg5 harg5 xo4 = xo4 := whole_read arg5 harg5 xo4 inb_S1024x1_S1024x1_0_0
  have e4 : rc arg6 harg6 xs0 = xs0 := whole_read arg6 harg6 xs0 inb_S1024x1_S1024x1_0_0
  refine ⟨?_, ?_, ?_⟩
  · unfold out0_B_2
    rw [row_middle, View.read_writes_full]
    rw [shapeCast_self, kept_middle, best_middle, e0, e1, e2, e4]; rfl
  · unfold out0_B_4
    rw [label_middle, View.read_writes_full]
    rw [shapeCast_self, tag_middle, best_middle, e0, e1, e3, e4]; rfl
  · unfold sout0_B_0
    rw [least_middle, View.read_writes_full]
    rw [shapeCast_self, best_middle, e0, e1, e4]; rfl

/-- Every stored value of the last point. -/
theorem last_stored (hc0 : ¬cond0_0 i) (hc1 : cond0_1 i) (hc2 : cond0_2 i) :
    out0_C_2 c i arg1 harg1 arg2 harg2 arg3 harg3 arg4 harg4 arg5 harg5 arg6 harg6 hc0 hc1 hc2 x0 x1 xo2 xo4 xs0
      = kept' x0 x1 xs0 xo2 ∧
    out0_C_4 c i arg1 harg1 arg2 harg2 arg3 harg3 arg4 harg4 arg5 harg5 arg6 harg6 hc0 hc1 hc2 x0 x1 xo2 xo4 xs0
      = tag' (BitVec.ofNat 32 (i 0).val) x0 x1 xs0 xo4 ∧
    sout0_C_0 c i arg1 harg1 arg2 harg2 arg3 harg3 arg4 harg4 arg5 harg5 arg6 harg6 hc0 hc1 hc2 x0 x1 xo2 xo4 xs0
      = best' x0 x1 xs0 ∧
    out0_C_3 c i arg1 harg1 arg2 harg2 arg3 harg3 arg4 harg4 arg5 harg5 arg6 harg6 hc0 hc1 hc2 x0 x1 xo2 xo4 xs0
      = total (best' x0 x1 xs0) := by
  have e0 : rx arg1 harg1 x0 = x0 := whole_read arg1 harg1 x0 inb_S1024x256_S1024x256_0_0
  have e1 : rg arg2 harg2 x1 = slab x1 := slab_read arg2 harg2 x1
  have e2 : rp arg3 harg3 xo2 = xo2 := whole_read arg3 harg3 xo2 inb_S1024x256_S1024x256_0_0
  have e3 : rc arg5 harg5 xo4 = xo4 := whole_read arg5 harg5 xo4 inb_S1024x1_S1024x1_0_0
  have e4 : rc arg6 harg6 xs0 = xs0 := whole_read arg6 harg6 xs0 inb_S1024x1_S1024x1_0_0
  refine ⟨?_, ?_, ?_, ?_⟩
  · unfold out0_C_2
    rw [row_last, View.read_writes_full]
    rw [shapeCast_self, kept_last, best_last, e0, e1, e2, e4]; rfl
  · unfold out0_C_4
    rw [label_last, View.read_writes_full]
    rw [shapeCast_self, tag_last, best_last, e0, e1, e3, e4]; rfl
  · unfold sout0_C_0
    rw [least_last, View.read_writes_full]
    rw [shapeCast_self, best_last, e0, e1, e4]; rfl
  · unfold out0_C_3
    rw [loss_last, View.read_writes_full]
    rw [View.readCov_full, shapeCast_self, best_last, e0, e1, e4]; rfl

end Stored

end Cert.Proof.Block

end
-- ==== Proof.Grid.lean ====
/-
  The sixteen grid points in turn: what the staging buffers and the carried column hold after each point is one
  recursion on the points over the two argument arrays, and the arrays after the run are that recursion at the last.
-/
module

public import proofs.«01_k».proof.Proof.Block
public import Idealize.ShloMosaic.Lib.Pipeline.ValueKit
public import Idealize.ShloMosaic.Lib.ValueIdxCore
public import Idealize.ShloMosaic.Lib.ValueIdxCoords

@[expose] public section

set_option maxRecDepth 16384

noncomputable section

namespace Cert.Proof.Grid

open Cert.KernelIdeal Cert.KernelIdeal.Gen Cert.Proof.Block
open Idealize.ShloMosaic Idealize.ShloMosaic.TcCoe Idealize.SL.Sem Idealize.ShloMosaic.ValueIdx
open Idealize.ShloMosaic.Pipeline (Dat)

variable {F : FTy → Type} [FloatOps F]

/-- The thirty-two dictionaries of point `n`. -/
def blk (d : Vec F S512x256x128 .f32) (n : ℕ) : Vec F S32x256x128 .f32 :=
  fun y => d (ValueIdx.ix3 ⟨(32 * n + (y 0).val) % 512, Nat.mod_lt _ (by decide)⟩ (y 1) (y 2))

/-- What is held after a point: the least distances, the projections and the labels. -/
structure Held (F : FTy → Type) where
  /-- the least distances -/
  dist : Vec F S1024x1 .f32
  /-- the projections -/
  proj : Vec F S1024x256 .bf16
  /-- the labels -/
  lab : Vec F S1024x1 .i32

/-- What is held after point `n`. -/
def held (x : Vec F S1024x256 .f32) (d : Vec F S512x256x128 .f32) : ℕ → Held F
  | 0 => ⟨best x (slab (blk d 0)) 31, kept x (slab (blk d 0)) 31, tag (BitVec.ofNat 32 0) x (slab (blk d 0)) 31⟩
  | n + 1 => ⟨best' x (blk d (n + 1)) (held x d n).dist,
      kept' x (blk d (n + 1)) (held x d n).dist (held x d n).proj,
      tag' (BitVec.ofNat 32 (n + 1)) x (blk d (n + 1)) (held x d n).dist (held x d n).lab⟩

variable (m : (ℓ : Loc nD τ sig) → Buf (Elt F) ℓ) (ρ : Dev nD → PrngReg)

/-- The points. -/
abbrev xin (c : Dev nD) : Vec F S1024x256 .f32 := m ((c : Thread nD τ).loc main_arg0)

/-- The dictionaries. -/
abbrev din (c : Dev nD) : Vec F S512x256x128 .f32 := m ((c : Thread nD τ).loc main_arg1)

theorem coord (t : Fin cfg0.N) : (grid0.coords t 0).val = t.val := by
  have h : ∀ t : Fin grid0.N, (grid0.coords t 0).val = t.val := by decide +kernel
  exact h t

theorem index0 : ∀ t : Fin grid0.N, win0_0.index t = ![0, 0] := by decide +kernel

theorem index1 : ∀ t : Fin grid0.N, win0_1.index t = ![t.val, 0, 0] := by decide +kernel

theorem iblk0 (c : Dev nD) (t : Fin cfg0.N) : (iblk m c 0 t : Vec F S1024x256 .f32) = xin m c := by
  funext j
  unfold iblk
  rw [View.read_apply]
  show V m c main_arg0 _ = m (c.tc.loc main_arg0) _
  congr 1
  funext a
  apply Fin.ext
  match a with
  | ⟨0, _⟩ => show win0_0.index t 0 * 1024 + 1 * (j 0).val = (j 0).val; rw [index0 t]; simp
  | ⟨1, _⟩ => show win0_0.index t 1 * 256 + 1 * (j 1).val = (j 1).val; rw [index0 t]; simp

theorem iblk1 (c : Dev nD) (t : Fin cfg0.N) : (iblk m c 1 t : Vec F S32x256x128 .f32) = blk (din m c) t.val := by
  funext j
  unfold iblk blk
  rw [View.read_apply]
  show V m c main_arg1 _ = m (c.tc.loc main_arg1) _
  have ht : t.val < 16 := lt_of_lt_of_eq t.isLt N_0
  have hj : (j 0).val < 32 := (j 0).isLt
  congr 1
  funext a
  apply Fin.ext
  match a with
  | ⟨0, _⟩ =>
    show win0_1.index t 0 * 32 + 1 * (j 0).val = (32 * t.val + (j 0).val) % 512
    rw [index1 t, Nat.mod_eq_of_lt (by omega)]
    show t.val * 32 + 1 * (j 0).val = _
    omega
  | ⟨1, _⟩ => show win0_1.index t 1 * 256 + 1 * (j 1).val = (j 1).val; rw [index1 t]; simp
  | ⟨2, _⟩ => show win0_1.index t 2 * 128 + 1 * (j 2).val = (j 2).val; rw [index1 t]; simp

attribute [local irreducible] best kept tag best' kept' tag' slab total

/-- The first point. -/
theorem outs_first (c : Dev nD) (t : Fin cfg0.N) (h0 : t.val % 16 = 0) (h1 : ¬1 ≤ t.val) (h2 : ¬t.val % 16 = 15) :
    (outsAt0 m c t.val t.isLt).1 = kept (xin m c) (slab (blk (din m c) t.val)) 31 ∧
    (outsAt0 m c t.val t.isLt).2.2.1 = tag (BitVec.ofNat 32 t.val) (xin m c) (slab (blk (din m c) t.val)) 31 ∧
    (outsAt0 m c t.val t.isLt).2.2.2 = best (xin m c) (slab (blk (din m c) t.val)) 31 := by
  have s := first_stored (F := F) c (grid0.coords t) (ms0_0 t) (hs0_0 t) (ms0_1 t) (hs0_1 t) (ms0_2 t) (hs0_2 t)
    (ms0_3 t) (hs0_3 t) (ms0_4 t) (hs0_4 t) scM0_0 (Memref.isWhole_whole _) (iblk m c 0 t) (iblk m c 1 t)
    ((hcond0_0 t).mpr h0) (fun h => h1 ((hcond0_1 t).mp h)) (fun h => h2 ((hcond0_2 t).mp h))
  rw [outsAt0_A m c t h0 h1 h2]
  dsimp only
  rw [s.1, s.2.1, s.2.2, coord, iblk0, iblk1]
  exact ⟨rfl, rfl, rfl⟩

/-- A point that is neither first nor last. -/
theorem outs_middle (c : Dev nD) (t : Fin cfg0.N) (h0 : ¬t.val % 16 = 0) (h1 : 1 ≤ t.val) (h2 : ¬t.val % 16 = 15) :
    (outsAt0 m c t.val t.isLt).1 = kept' (xin m c) (blk (din m c) t.val)
      (outsAt0 m c (t.val - 1) (Nat.lt_of_le_of_lt (Nat.sub_le _ _) t.isLt)).2.2.2
      (outsAt0 m c (t.val - 1) (Nat.lt_of_le_of_lt (Nat.sub_le _ _) t.isLt)).1 ∧
    (outsAt0 m c t.val t.isLt).2.2.1 = tag' (BitVec.ofNat 32 t.val) (xin m c) (blk (din m c) t.val)
      (outsAt0 m c (t.val - 1) (Nat.lt_of_le_of_lt (Nat.sub_le _ _) t.isLt)).2.2.2
      (outsAt0 m c (t.val - 1) (Nat.lt_of_le_of_lt (Nat.sub_le _ _) t.isLt)).2.2.1 ∧
    (outsAt0 m c t.val t.isLt).2.2.2 = best' (xin m c) (blk (din m c) t.val)
      (outsAt0 m c (t.val - 1) (Nat.lt_of_le_of_lt (Nat.sub_le _ _) t.isLt)).2.2.2 := by
  have s := middle_stored (F := F) c (grid0.coords t) (ms0_0 t) (hs0_0 t) (ms0_1 t) (hs0_1 t) (ms0_2 t) (hs0_2 t)
    (ms0_3 t) (hs0_3 t) (ms0_4 t) (hs0_4 t) scM0_0 (Memref.isWhole_whole _) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2.2.1
    (outsAt0 m c (t.val - 1) (Nat.lt_of_le_of_lt (Nat.sub_le _ _) t.isLt)).2.2.2
    (fun h => h0 ((hcond0_0 t).mp h)) ((hcond0_1 t).mpr h1) (fun h => h2 ((hcond0_2 t).mp h))
  rw [outsAt0_B m c t h0 h1 h2]
  dsimp only
  rw [s.1, s.2.1, s.2.2, coord, iblk0, iblk1]
  exact ⟨rfl, rfl, rfl⟩

/-- The last point. -/
theorem outs_last (c : Dev nD) (t : Fin cfg0.N) (h0 : ¬t.val % 16 = 0) (h1 : 1 ≤ t.val) (h2 : t.val % 16 = 15) :
    (outsAt0 m c t.val t.isLt).1 = kept' (xin m c) (blk (din m c) t.val)
      (outsAt0 m c (t.val - 1) (Nat.lt_of_le_of_lt (Nat.sub_le _ _) t.isLt)).2.2.2
      (outsAt0 m c (t.val - 1) (Nat.lt_of_le_of_lt (Nat.sub_le _ _) t.isLt)).1 ∧
    (outsAt0 m c t.val t.isLt).2.2.1 = tag' (BitVec.ofNat 32 t.val) (xin m c) (blk (din m c) t.val)
      (outsAt0 m c (t.val - 1) (Nat.lt_of_le_of_lt (Nat.sub_le _ _) t.isLt)).2.2.2
      (outsAt0 m c (t.val - 1) (Nat.lt_of_le_of_lt (Nat.sub_le _ _) t.isLt)).2.2.1 ∧
    (outsAt0 m c t.val t.isLt).2.2.2 = best' (xin m c) (blk (din m c) t.val)
      (outsAt0 m c (t.val - 1) (Nat.lt_of_le_of_lt (Nat.sub_le _ _) t.isLt)).2.2.2 ∧
    (outsAt0 m c t.val t.isLt).2.1 = total (best' (xin m c) (blk (din m c) t.val)
      (outsAt0 m c (t.val - 1) (Nat.lt_of_le_of_lt (Nat.sub_le _ _) t.isLt)).2.2.2) := by
  have s := last_stored (F := F) c (grid0.coords t) (ms0_0 t) (hs0_0 t) (ms0_1 t) (hs0_1 t) (ms0_2 t) (hs0_2 t)
    (ms0_3 t) (hs0_3 t) (ms0_4 t) (hs0_4 t) scM0_0 (Memref.isWhole_whole _) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2.2.1
    (outsAt0 m c (t.val - 1) (Nat.lt_of_le_of_lt (Nat.sub_le _ _) t.isLt)).2.2.2
    (fun h => h0 ((hcond0_0 t).mp h)) ((hcond0_1 t).mpr h1) ((hcond0_2 t).mpr h2)
  rw [outsAt0_C m c t h0 h1 h2]
  dsimp only
  rw [s.1, s.2.1, s.2.2.1, s.2.2.2, coord, iblk0, iblk1]
  exact ⟨rfl, rfl, rfl, rfl⟩

/-- After every point, the buffers hold the recursion. -/
theorem outs_eq (c : Dev nD) : ∀ (n : ℕ) (h : n < cfg0.N),
    (outsAt0 m c n h).1 = (held (xin m c) (din m c) n).proj ∧
    (outsAt0 m c n h).2.2.1 = (held (xin m c) (din m c) n).lab ∧
    (outsAt0 m c n h).2.2.2 = (held (xin m c) (din m c) n).dist
  | 0, h => outs_first m c ⟨0, h⟩ (Nat.zero_mod 16) (Nat.not_succ_le_zero 0) (by simp)
  | n + 1, h => by
    have hN : cfg0.N = 16 := N_0
    obtain ⟨e1, e2, e3⟩ := outs_eq c n (Nat.lt_of_succ_lt h)
    have h0 : ¬(n + 1) % 16 = 0 := by omega
    have h1 : 1 ≤ n + 1 := Nat.succ_le_succ (Nat.zero_le n)
    have k : (outsAt0 m c (n + 1) h).1 = kept' (xin m c) (blk (din m c) (n + 1)) (outsAt0 m c n (Nat.lt_of_succ_lt h)).2.2.2
          (outsAt0 m c n (Nat.lt_of_succ_lt h)).1 ∧
        (outsAt0 m c (n + 1) h).2.2.1 = tag' (BitVec.ofNat 32 (n + 1)) (xin m c) (blk (din m c) (n + 1))
          (outsAt0 m c n (Nat.lt_of_succ_lt h)).2.2.2 (outsAt0 m c n (Nat.lt_of_succ_lt h)).2.2.1 ∧
        (outsAt0 m c (n + 1) h).2.2.2 = best' (xin m c) (blk (din m c) (n + 1))
          (outsAt0 m c n (Nat.lt_of_succ_lt h)).2.2.2 := by
      by_cases h2 : (n + 1) % 16 = 15
      · obtain ⟨a, b, d, -⟩ := outs_last m c ⟨n + 1, h⟩ h0 h1 h2
        exact ⟨a, b, d⟩
      · exact outs_middle m c ⟨n + 1, h⟩ h0 h1 h2
    rw [e1, e2, e3] at k
    exact k

/-- After the last point, the loss. -/
theorem loss_eq (c : Dev nD) (t : Fin cfg0.N) (h2 : t.val % 16 = 15) :
    (outsAt0 m c t.val t.isLt).2.1 = total (held (xin m c) (din m c) t.val).dist := by
  obtain ⟨-, -, a, b⟩ := outs_last m c t (by omega) (by omega) h2
  rw [b, ← a, (outs_eq m c t.val t.isLt).2.2]

end Cert.Proof.Grid

end
-- ==== Proof.KernelRun.lean ====
/-
  The whole run of the kernel: its three arrays after the last point, and the three results the host operations make
  of them.
-/
module

public import proofs.«01_k».proof.Proof.Grid
public import Idealize.ShloMosaic.Lib.Claim

@[expose] public section

set_option maxRecDepth 16384

noncomputable section

namespace Cert.Proof.Ker

open Cert.KernelIdeal Cert.KernelIdeal.Gen Cert.Proof.Block Cert.Proof.Grid
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What is held at the end. -/
abbrev fin (x : Vec F S1024x256 .f32) (d : Vec F S512x256x128 .f32) : Held F := held x d 15

attribute [local irreducible] held total

theorem arr2 (c : Dev nD) : (dats m 0 c).arrAt 2 cfg0.N = (fin (xin m c) (din m c)).proj := by
  refine (dats m 0 c).arrAt_eq_of_after_last 2 t0_15 (by decide +kernel) _ fun j => ?_
  rw [after0_2, (outs_eq m c t0_15.val t0_15.isLt).1]
  blk_simp
  rfl

theorem arr3 (c : Dev nD) : (dats m 0 c).arrAt 3 cfg0.N = total (fin (xin m c) (din m c)).dist := by
  refine (dats m 0 c).arrAt_eq_of_after_last 3 t0_15 (by decide +kernel) _ fun j => ?_
  rw [after0_3, loss_eq m c t0_15 rfl]
  blk_simp
  rfl

theorem arr4 (c : Dev nD) : (dats m 0 c).arrAt 4 cfg0.N = (fin (xin m c) (din m c)).lab := by
  refine (dats m 0 c).arrAt_eq_of_after_last 4 t0_15 (by decide +kernel) _ fun j => ?_
  rw [after0_4, (outs_eq m c t0_15.val t0_15.isLt).2.1]
  blk_simp
  rfl

/-- What the host operations read of a window's array: what the run left in it. -/
theorem after_arr (c : Dev nD) (w : Fin 5) :
    Pipeline.withArrays (cfgs 0).spec c (V0 m c) (fun w => (dats m 0 c).arrAt w (cfgs 0).N)
      (Proc.devRef .tc (Pipeline.arrRef spec0 w)) = (dats m 0 c).arrAt w cfg0.N :=
  Pipeline.withArrays_arr spec0 (by decide) c (V0 m c) (fun w => (dats m 0 c).arrAt w (cfgs 0).N) w

/-- The kernel's run. -/
theorem run : θ_run defs (onTc (τ := τ) (main (F := F))) ⟨m, fun _ => 0, ρ⟩ fun r => ∀ c : Dev nD,
      r.2.mem ((c.tc : Thread nD τ).loc main_v1) = extf .f32 (fin (xin m c) (din m c)).proj bitsLt_bf16_f32
      ∧ r.2.mem ((c.tc : Thread nD τ).loc main_v2) = shapeCast S_ (total (fin (xin m c) (din m c)).dist) shapeCasts_S1x1_S_
      ∧ r.2.mem ((c.tc : Thread nD τ).loc main_v3) = shapeCast S1024 (fin (xin m c) (din m c)).lab shapeCasts_S1024x1_S1024
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  · refine Eq.trans ?_ (congrArg (extf .f32 · bitsLt_bf16_f32) (arr2 m c))
    unfold Pipeline.afterTail₀ hostOps1
    after_results
    exact congrArg (fun v : Vec F S1024x256 .bf16 => extf .f32 v bitsLt_bf16_f32) (after_arr m c 2)
  · refine Eq.trans ?_ (congrArg (shapeCast S_ · shapeCasts_S1x1_S_) (arr3 m c))
    unfold Pipeline.afterTail₀ hostOps1
    after_results
    exact congrArg (fun v : Vec F S1x1 .f32 => shapeCast S_ v shapeCasts_S1x1_S_) (after_arr m c 3)
  · refine Eq.trans ?_ (congrArg (shapeCast S1024 · shapeCasts_S1024x1_S1024) (arr4 m c))
    unfold Pipeline.afterTail₀ hostOps1
    after_results
    exact congrArg (fun v : Vec F S1024x1 .i32 => shapeCast S1024 v shapeCasts_S1024x1_S1024) (after_arr m c 4)

end Cert.Proof.Ker

end
-- ==== Proof.Least.lean ====
/-
  The first place at which a sequence of extended reals is least, and the two ways the programs find it: by keeping the
  better of two neighbouring ranges, and by folding a comparison of (value, index) pairs.
-/
module

public import Idealize.ShloMosaic.PureOps.Ideal.Laws

@[expose] public section

noncomputable section

namespace Cert.Proof.Least

/-- `p` is the first place in `[a, b)` at which `v` is least. -/
structure First (v : ℕ → EReal) (a b p : ℕ) : Prop where
  ge : a ≤ p
  lt : p < b
  least : ∀ j, a ≤ j → j < b → v p ≤ v j
  before : ∀ j, a ≤ j → j < p → v p < v j

variable {v w : ℕ → EReal} {a b c p q : ℕ}

/-- A range of one place. -/
theorem First.single (v : ℕ → EReal) (a : ℕ) : First v a (a + 1) a :=
  ⟨le_refl a, Nat.lt_succ_self a, fun j h1 h2 => by rw [show j = a by omega], fun j h1 h2 => by omega⟩

/-- The later of two neighbouring ranges wins only if it is strictly better. -/
theorem First.right (h1 : First v a b p) (h2 : First v b c q) (h : v q < v p) : First v a c q :=
  ⟨by have := h1.ge; have := h1.lt; have := h2.ge; omega, h2.lt,
   fun j ha hc => if hb : j < b then h.le.trans (h1.least j ha hb) else h2.least j (by omega) hc,
   fun j ha hq => if hb : j < b then h.trans_le (h1.least j ha hb) else h2.before j (by omega) hq⟩

/-- Otherwise the earlier one stands. -/
theorem First.left (h1 : First v a b p) (h2 : First v b c q) (h : ¬v q < v p) : First v a c p :=
  ⟨h1.ge, by have := h1.lt; have := h2.ge; have := h2.lt; omega,
   fun j ha hc => if hb : j < b then h1.least j ha hb else (not_lt.mp h).trans (h2.least j (by omega) hc),
   h1.before⟩

/-- There is one such place. -/
theorem First.unique (h1 : First v a b p) (h2 : First v a b q) : p = q := by
  rcases lt_trichotomy p q with h | h | h
  · exact absurd (h1.least q h2.ge h2.lt) (not_le.mpr (h2.before p h1.ge h))
  · exact h
  · exact absurd (h2.least p h1.ge h1.lt) (not_le.mpr (h1.before q h2.ge h))

/-- Two sequences that compare alike on the range have the same first least place. -/
theorem First.transport (h : ∀ i j, v i < v j ↔ w i < w j) (h1 : First v a b p) : First w a b p :=
  ⟨h1.ge, h1.lt, fun j ha hb => not_lt.mp fun hw => absurd (h1.least j ha hb) (not_le.mpr ((h j p).2 hw)),
   fun j ha hp => (h p j).1 (h1.before j ha hp)⟩

/-- A fold that keeps the smaller of two by a key ends at the least of all it has seen. -/
theorem fold_least {α κ : Type} [LinearOrder κ] (key : α → κ) (f : α → α → α)
    (hf : ∀ x y, f x y = if key x < key y then x else y) :
    ∀ (L : List α) (z : α), (L.foldl f z = z ∨ L.foldl f z ∈ L) ∧ key (L.foldl f z) ≤ key z
      ∧ ∀ x ∈ L, key (L.foldl f z) ≤ key x
  | [], z => ⟨.inl rfl, le_refl _, fun x hx => absurd hx List.not_mem_nil⟩
  | y :: L, z => by
    obtain ⟨hm, hz, hl⟩ := fold_least key f hf L (f z y)
    rw [List.foldl_cons]
    have hfz : (f z y = z ∨ f z y = y) ∧ key (f z y) ≤ key z ∧ key (f z y) ≤ key y := by
      rw [hf]; split
      · next h => exact ⟨.inl rfl, le_refl _, h.le⟩
      · next h => exact ⟨.inr rfl, not_lt.mp h, le_refl _⟩
    refine ⟨?_, hz.trans hfz.2.1, fun x hx => ?_⟩
    · rcases hm with hm | hm
      · rcases hfz.1 with h | h
        · exact .inl (hm.trans h)
        · exact .inr (by rw [hm, h]; exact List.mem_cons_self)
      · exact .inr (List.mem_cons_of_mem y hm)
    · rcases List.mem_cons.mp hx with rfl | hx
      · exact hz.trans hfz.2.2
      · exact hl x hx

/-- A square is not negative. -/
theorem square_nonneg (z : EReal) : 0 ≤ z * z := by
  induction z with
  | bot => simp
  | coe r => rw [← EReal.coe_mul]; exact EReal.coe_nonneg.mpr (mul_self_nonneg r)
  | top => simp

open Idealize.ShloMosaic in
/-- The square root keeps the order of numbers that are not negative. -/
theorem sqrt_lt (x y : EReal) (hx : 0 ≤ x) (hy : 0 ≤ y) : Ideal.sqrt x < Ideal.sqrt y ↔ x < y := by
  have hv : ∀ r : ℝ, 0 ≤ r → Ideal.sqrt (r : EReal) = (Real.sqrt r : EReal) := fun r hr => if_neg (not_lt.mpr hr)
  have key : ∀ a b : EReal, 0 ≤ a → a < b → Ideal.sqrt a < Ideal.sqrt b := by
    intro a b ha hab
    induction a with
    | bot => exact absurd ha (by simp)
    | top => exact absurd hab (by simp)
    | coe r =>
      have hr : 0 ≤ r := EReal.coe_nonneg.mp ha
      induction b with
      | bot => exact absurd hab (by simp)
      | top => rw [hv r hr]; exact EReal.coe_lt_top _
      | coe t =>
        have hrt : r < t := EReal.coe_lt_coe_iff.mp hab
        rw [hv r hr, hv t (hr.trans hrt.le)]
        exact EReal.coe_lt_coe_iff.mpr (Real.sqrt_lt_sqrt hr hrt)
  refine ⟨fun h => ?_, key x y hx⟩
  rcases lt_trichotomy x y with e | e | e
  · exact e
  · subst e; exact absurd h (lt_irrefl _)
  · exact absurd (h.trans (key y x hy e)) (lt_irrefl _)

end Cert.Proof.Least

end
-- ==== Proof.KernelVal.lean ====
/-
  The kernel's values over the extended reals: after the last grid point each row holds the first dictionary at the
  least squared distance, that distance and the projection on it.
-/
module

public import proofs.«01_k».proof.Proof.Grid
public import proofs.«01_k».proof.Proof.Least
public import Idealize.ShloMosaic.Lib.Pointwise.Tactic

@[expose] public section

set_option maxRecDepth 16384

noncomputable section

namespace Cert.Proof.Val

open Cert.KernelIdeal Cert.KernelIdeal.Gen
open Idealize.ShloMosaic Idealize.ShloMosaic.TcCoe Idealize.SL.Sem
open Cert.Proof.Block Cert.Proof.Grid Cert.Proof.Least

/-- A dictionary's number, within the array. -/
abbrev num (f : ℕ) : Fin 512 := ⟨f % 512, Nat.mod_lt f (by decide)⟩

/-- Point `b` projected on dictionary `f`, at coordinate `i`. -/
def proj (x : Vec Ideal S1024x256 .f32) (D : Vec Ideal S512x256x128 .f32) (f : ℕ) (b : Fin 1024) (i : Fin 256) : EReal :=
  ∑ k : Fin 128, (∑ i' : Fin 256, x (ix2 b i') * D (ix3 (num f) i' k)) * D (ix3 (num f) i k)

/-- The squared distance of point `b` from dictionary `f`'s subspace. -/
def gap (x : Vec Ideal S1024x256 .f32) (D : Vec Ideal S512x256x128 .f32) (b : Fin 1024) (f : ℕ) : EReal :=
  ∑ i : Fin 256, (proj x D f b i - x (ix2 b i)) * (proj x D f b i - x (ix2 b i))

/-- It is not negative. -/
theorem gap_nonneg (x : Vec Ideal S1024x256 .f32) (D : Vec Ideal S512x256x128 .f32) (b : Fin 1024) (f : ℕ) : 0 ≤ gap x D b f :=
  Finset.sum_nonneg fun _ _ => square_nonneg _

/-- Dictionary `f` as a block's slab holds it. -/
def dict (D : Vec Ideal S512x256x128 .f32) (f : ℕ) : Vec Ideal S1x256x128 .f32 := fun y => D (ix3 (num f) (y 1) (y 2))

variable (x : Vec Ideal S1024x256 .f32) (D : Vec Ideal S512x256x128 .f32)

theorem xhat_apply (f : ℕ) (b : Fin 1024) (i : Fin 256) : xhat x (dict D f) (ix2 b i) = proj x D f b i := by
  unfold xhat dict proj
  pointwise

theorem sqdist_apply (f : ℕ) (b : Fin 1024) : sqdist x (dict D f) (ix2 b 0) = gap x D b f := by
  unfold sqdist gap
  pointwise
  exact Finset.sum_congr rfl fun i _ => by rw [xhat_apply]

theorem spread_apply (p : IVec S1024x1 1) (b : Fin 1024) (i : Fin 256) : spread p (ix2 b i) = p (ix2 b 0) := by
  unfold spread
  pointwise

/-- The slabs of block `n` are the dictionaries `32n … 32n + 31`. -/
theorem slab_blk (n j : ℕ) (hj : j < 32) : slab (blk D n) j = dict D (32 * n + j) := by
  funext y
  unfold slab blk dict
  pointwise
  exact congrArg (fun q => D (ix3 q (y 1) (y 2)))
    (Fin.ext (by show (32 * n + j % 32) % 512 = (32 * n + j) % 512; rw [Nat.mod_eq_of_lt hj]))

/-- A chosen word. -/
theorem select_lt {α : Type} (u v : EReal) (s t : α) :
    Scalar.select (FloatOps.cmpf (F := Ideal) (φ := .f32) .olt u v) s t = if u < v then s else t := by
  show (if BitVec.ofBool (decide (u < v)) = 1 then s else t) = _
  by_cases h : u < v <;> simp [h]

/-- What a row holds once the dictionaries `a … c - 1` are tried. -/
structure Row (a c : ℕ) (b : Fin 1024) (d : EReal) (r : Fin 256 → EReal) (l : BitVec 32) (p : ℕ) : Prop where
  first : First (gap x D b) a c p
  dist : d = gap x D b p
  point : ∀ i, r i = proj x D p b i
  label : l = BitVec.ofNat 32 p

variable {x D}

/-- Two neighbouring ranges' rows, and the better kept. -/
theorem Row.join {a e c : ℕ} {b : Fin 1024} {d d' : EReal} {r r' : Fin 256 → EReal} {l l' : BitVec 32} {p q : ℕ}
    (h : Row x D a e b d r l p) (h' : Row x D e c b d' r' l' q) :
    ∃ s, Row x D a c b (if d' < d then d' else d) (fun i => if d' < d then r' i else r i) (if d' < d then l' else l) s := by
  by_cases hd : d' < d
  · simp only [if_pos hd]
    exact ⟨q, h.first.right h'.first (by rw [← h.dist, ← h'.dist]; exact hd), h'.dist, h'.point, h'.label⟩
  · simp only [if_neg hd]
    exact ⟨p, h.first.left h'.first (by rw [← h.dist, ← h'.dist]; exact hd), h.dist, h.point, h.label⟩

variable (x D)

/-- One dictionary's row. -/
theorem row_one (b : Fin 1024) (f : ℕ) : Row x D f (f + 1) b (sqdist x (dict D f) (ix2 b 0))
    (fun i => truncf (F := Ideal) .bf16 (xhat x (dict D f)) bitsLt_bf16_f32 (ix2 b i)) (BitVec.ofNat 32 f) f :=
  ⟨First.single _ _, sqdist_apply x D f b, fun i => xhat_apply x D f b i, rfl⟩

/-- A block's row after `k + 1` of its dictionaries. -/
theorem row_block (n : ℕ) (g : ℕ → Vec Ideal S1x256x128 .f32) (hg : ∀ j, j < 32 → g j = dict D (32 * n + j)) (b : Fin 1024) :
    ∀ k, k < 32 → ∃ p, Row x D (32 * n) (32 * n + k + 1) b (best x g k (ix2 b 0)) (fun i => kept x g k (ix2 b i))
      (tag (BitVec.ofNat 32 n) x g k (ix2 b 0)) p
  | 0, h => by
    refine ⟨32 * n, ?_⟩
    have e := row_one x D b (32 * n)
    rw [show dict D (32 * n) = g 0 from (hg 0 h).symm] at e
    refine ⟨e.first, e.dist, e.point, ?_⟩
    show 0#32 + 32#32 * BitVec.ofNat 32 n = _
    rw [BitVec.ofNat_mul, BitVec.zero_add]
  | k + 1, h => by
    obtain ⟨p, hp⟩ := row_block n g hg b k (by omega)
    have e := row_one x D b (32 * n + k + 1)
    rw [show dict D (32 * n + k + 1) = g (k + 1) from (hg (k + 1) h).symm] at e
    obtain ⟨s, hs⟩ := hp.join e
    refine ⟨s, ?_⟩
    have h1 : best x g (k + 1) (ix2 b 0) = if sqdist x (g (k + 1)) (ix2 b 0) < best x g k (ix2 b 0) then
        sqdist x (g (k + 1)) (ix2 b 0) else best x g k (ix2 b 0) := select_lt _ _ _ _
    have h2 : ∀ i, kept x g (k + 1) (ix2 b i) = if sqdist x (g (k + 1)) (ix2 b 0) < best x g k (ix2 b 0) then
        truncf (F := Ideal) .bf16 (xhat x (g (k + 1))) bitsLt_bf16_f32 (ix2 b i) else kept x g k (ix2 b i) := fun i => by
      refine Eq.trans ?_ (select_lt _ _ _ _)
      show Scalar.select (spread _ (ix2 b i)) _ _ = _
      rw [spread_apply]; rfl
    have h3 : tag (BitVec.ofNat 32 n) x g (k + 1) (ix2 b 0) = if sqdist x (g (k + 1)) (ix2 b 0) < best x g k (ix2 b 0) then
        BitVec.ofNat 32 (32 * n + k + 1) else tag (BitVec.ofNat 32 n) x g k (ix2 b 0) := by
      refine Eq.trans (select_lt _ _ _ _) ?_
      congr 1
      show 32#32 * BitVec.ofNat 32 n + BitVec.ofNat 32 (k + 1) = _
      rw [Nat.add_assoc, BitVec.ofNat_add (32 * n), BitVec.ofNat_mul]
    rw [h1, h3, funext h2]
    exact hs

section
attribute [local irreducible] best kept tag

/-- A row after the blocks `0 … n`. -/
theorem row_held (b : Fin 1024) : ∀ n, ∃ p, Row x D 0 (32 * (n + 1)) b ((held x D n).dist (ix2 b 0))
    (fun i => (held x D n).proj (ix2 b i)) ((held x D n).lab (ix2 b 0)) p
  | 0 => row_block x D 0 (slab (blk D 0)) (fun j hj => slab_blk D 0 j hj) b 31 (by decide)
  | n + 1 => by
    obtain ⟨p, hp⟩ := row_held b n
    obtain ⟨q, hq⟩ := row_block x D (n + 1) (slab (blk D (n + 1))) (fun j hj => slab_blk D (n + 1) j hj) b 31 (by decide)
    obtain ⟨s, hs⟩ := hp.join hq
    rw [show 32 * (n + 1) + 31 + 1 = 32 * (n + 1 + 1) by omega] at hs
    refine ⟨s, ?_⟩
    generalize hbl : slab (blk D (n + 1)) = g at hs
    have h1 : (held x D (n + 1)).dist (ix2 b 0) = if best x g 31 (ix2 b 0) < (held x D n).dist (ix2 b 0) then
        best x g 31 (ix2 b 0) else (held x D n).dist (ix2 b 0) := by rw [← hbl]; exact select_lt _ _ _ _
    have h2 : ∀ i, (held x D (n + 1)).proj (ix2 b i) = if best x g 31 (ix2 b 0) < (held x D n).dist (ix2 b 0) then
        kept x g 31 (ix2 b i) else (held x D n).proj (ix2 b i) := fun i => by
      rw [← hbl]
      refine Eq.trans ?_ (select_lt _ _ _ _)
      show Scalar.select (spread _ (ix2 b i)) _ _ = _
      rw [spread_apply]; rfl
    have h3 : (held x D (n + 1)).lab (ix2 b 0) = if best x g 31 (ix2 b 0) < (held x D n).dist (ix2 b 0) then
        tag (BitVec.ofNat 32 (n + 1)) x g 31 (ix2 b 0) else (held x D n).lab (ix2 b 0) := by
      rw [← hbl]; exact select_lt _ _ _ _
    rw [h1, h3, funext h2]
    exact hs

end

end Cert.Proof.Val

end
-- ==== Proof.RefVal.lean ====
/-
  The reference's values over the extended reals: its label is the first dictionary at the least squared distance, and
  the dictionary it takes is the one the label names.
-/
module

public import proofs.«01_k».proof.Proof.RefRun
public import proofs.«01_k».proof.Proof.KernelVal

@[expose] public section

set_option maxRecDepth 16384

noncomputable section

namespace Cert.Proof.Val

open Cert.ReferenceIdeal Cert.ReferenceIdeal.Gen
open Idealize.ShloMosaic Idealize.ShloMosaic.TcCoe Idealize.SL.Sem
open Cert.Proof.Least

variable (x : Vec Ideal S1024x256 .f32) (D : Vec Ideal S512x256x128 .f32)

theorem num_val (f : Fin 512) : num f.val = f := Fin.ext (Nat.mod_eq_of_lt f.isLt)

theorem dist_apply (f : Fin 512) (b : Fin 1024) : Ref.dist x D (ix2 f b) = Ideal.sqrt (gap x D b f.val) := by
  unfold Ref.dist Ref.residual gap proj
  rw [num_val]
  pointwise

/-- How the reference ranks (distance, index) pairs. -/
def rank (a : EReal × BitVec 32) : EReal ×ₗ ℤ := toLex (a.1, a.2.toInt)

/-- Its comparison keeps the lower ranked of two pairs. -/
theorem keep_lower (a b : EReal × BitVec 32) :
    reducer_argmin_f32_i32 (F := Ideal) a b = if rank a < rank b then a else b := by
  obtain ⟨u, i⟩ := a
  obtain ⟨v, j⟩ := b
  have hr : (rank (u, i) < rank (v, j)) ↔ (u < v ∨ u = v ∧ i.toInt < j.toInt) := Prod.Lex.lt_iff
  have hc : ∀ c d : Bool, BitVec.ofBool c ||| BitVec.ofBool d = BitVec.ofBool (c || d) := by decide
  have ha : ∀ c d : Bool, BitVec.ofBool c &&& BitVec.ofBool d = BitVec.ofBool (c && d) := by decide
  have hs : ∀ {α : Type} (c : Bool) (s t : α), Scalar.select (BitVec.ofBool c) s t = if c then s else t := by
    intro α c s t; cases c <;> rfl
  have e1 : (reducer_argmin_f32_i32 (F := Ideal) (u, i) (v, j)).1 = if u < v then u else v := by
    show Scalar.select (BitVec.ofBool (decide (u < v)) ||| BitVec.ofBool (decide (u ≠ u))) u v = _
    rw [hc, hs]; simp
  have e2 : (reducer_argmin_f32_i32 (F := Ideal) (u, i) (v, j)).2 = if u < v ∨ u = v ∧ i.toInt < j.toInt then i else j := by
    show Scalar.select ((BitVec.ofBool (decide (u < v)) ||| BitVec.ofBool (decide (u ≠ u))) |||
      (BitVec.ofBool (decide (u = v)) &&& BitVec.ofBool (i.slt j))) i j = _
    rw [hc, ha, hc, hs]; simp [BitVec.slt]
  refine Prod.ext ?_ ?_
  · rw [e1]
    by_cases h : u < v
    · rw [if_pos h, if_pos (hr.2 (.inl h))]
    · rw [if_neg h]
      split
      · next h' => exact ((hr.1 h').resolve_left h).1.symm
      · rfl
  · rw [e2]
    by_cases h : rank (u, i) < rank (v, j)
    · rw [if_pos h, if_pos (hr.1 h)]
    · rw [if_neg h, if_neg fun h' => h (hr.2 h')]

/-- A pair of the column of point `b`. -/
def pairOf (b : Fin 1024) (f : Fin 512) : EReal × BitVec 32 := (Ideal.sqrt (gap x D b f.val), BitVec.ofNat 32 f.val)

/-- The column the reference searches for point `b` holds one pair for each dictionary. -/
theorem mem_column (b : Fin 1024) (a : EReal × BitVec 32) :
    a ∈ Host.argReduceFiber (Ref.dist x D) (iotaInDim S512x1024 32 0) reducesTo_S512x1024_S1024_d0 (ix1 b)
      ↔ ∃ f, a = pairOf x D b f := by
  unfold Host.argReduceFiber
  rw [List.mem_map]
  constructor
  · rintro ⟨n, hn, rfl⟩
    have hd := of_decide_eq_true (List.mem_filter.1 hn).2
    generalize S512x1024.rowMajor.symm n = i at hd ⊢
    obtain ⟨f, c, rfl⟩ : ∃ (f : Fin 512) (c : Fin 1024), i = ix2 f c := ⟨i 0, i 1, eq_ix2 i⟩
    have hcb : c = b := by
      have := congrFun hd 0
      exact Fin.ext (congrArg Fin.val this)
    subst hcb
    exact ⟨f, Prod.ext (dist_apply x D f c) rfl⟩
  · rintro ⟨f, rfl⟩
    refine ⟨S512x1024.rowMajor (ix2 f b), List.mem_filter.2 ⟨List.mem_finRange _, ?_⟩, ?_⟩
    · rw [Equiv.symm_apply_apply]
      exact decide_eq_true (funext fun a => by
        match a with
        | ⟨0, _⟩ => exact Fin.ext rfl)
    · rw [Equiv.symm_apply_apply]
      exact Prod.ext (dist_apply x D f b) rfl

theorem toInt_small (f : ℕ) (h : f < 512) : (BitVec.ofNat 32 f).toInt = f := by
  rw [BitVec.toInt_eq_toNat_of_lt] <;> simp <;> omega

/-- The reference's label is the first dictionary at the least squared distance. -/
theorem label_first (b : Fin 1024) :
    ∃ p, First (gap x D b) 0 512 p ∧ Ref.label x D (ix1 b) = BitVec.ofNat 32 p := by
  have hw : ∀ i j, Ideal.sqrt (gap x D b i) < Ideal.sqrt (gap x D b j) ↔ gap x D b i < gap x D b j :=
    fun i j => sqrt_lt _ _ (gap_nonneg x D b i) (gap_nonneg x D b j)
  have htop : Ideal.ofBits .f32 0x7F800000#32 = ⊤ := by simp [Ideal.ofBits, Ideal.ieee]
  have hl : Ref.label x D (ix1 b) = ((Host.argReduceFiber (Ref.dist x D) (iotaInDim S512x1024 32 0)
      reducesTo_S512x1024_S1024_d0 (ix1 b)).foldl (reducer_argmin_f32_i32 (F := Ideal)) ((⊤ : EReal), 0#32)).2 := by
    unfold Ref.label
    rw [Ideal.argReduce_eq_reduce2, Host.reduce2_eq_foldl_fiber]
    show (List.foldl _ (Ideal.ofBits .f32 0x7F800000#32, 0#32) _).2 = _
    rw [htop]
  obtain ⟨hm, -, hall⟩ := fold_least rank (reducer_argmin_f32_i32 (F := Ideal)) keep_lower
    (Host.argReduceFiber (Ref.dist x D) (iotaInDim S512x1024 32 0) reducesTo_S512x1024_S1024_d0 (ix1 b)) ((⊤ : EReal), 0#32)
  rw [hl]
  generalize List.foldl (reducer_argmin_f32_i32 (F := Ideal)) ((⊤ : EReal), 0#32) _ = r at hm hall ⊢
  have hle : ∀ f, f < 512 → r.1 < Ideal.sqrt (gap x D b f) ∨ r.1 = Ideal.sqrt (gap x D b f) ∧ r.2.toInt ≤ f := fun f hf => by
    have := Prod.Lex.le_iff.1 (hall _ ((mem_column x D b _).2 ⟨⟨f, hf⟩, rfl⟩))
    rw [← toInt_small f hf]
    exact this
  rcases hm with rfl | hm
  · refine ⟨0, First.transport hw ⟨Nat.le_refl 0, by decide, fun j _ hj => ?_, fun j _ hj => absurd hj (Nat.not_lt_zero j)⟩, rfl⟩
    rcases hle j hj with h | h
    · exact absurd h not_top_lt
    · rw [← h.1]; exact le_top
  · obtain ⟨f, rfl⟩ := (mem_column x D b r).1 hm
    refine ⟨f.val, First.transport hw ⟨Nat.zero_le _, f.isLt, fun j _ hj => ?_, fun j _ hj => ?_⟩, rfl⟩
    · rcases hle j hj with h | h
      · exact h.le
      · exact h.1.le
    · rcases hle j (hj.trans f.isLt) with h | h
      · exact h
      · have h2 := h.2
        rw [show (pairOf x D b f).2 = BitVec.ofNat 32 f.val from rfl, toInt_small _ f.isLt] at h2
        omega

/-- A label in range is taken as it is. -/
theorem wrapped_apply (l : IVec S1024 32) (b : Fin 1024) (p : ℕ) (hp : p < 512) (hl : l (ix1 b) = BitVec.ofNat 32 p) :
    Ref.wrapped l (ix2 b 0) = BitVec.ofNat 32 p := by
  unfold Ref.wrapped
  pointwise
  rw [hl]
  have : IntOp.cmpi .slt (BitVec.ofNat 32 p) 0#32 = 0#1 := by
    show BitVec.ofBool ((BitVec.ofNat 32 p).slt 0#32) = _
    rw [BitVec.slt, toInt_small p hp, show (0#32).toInt = 0 from rfl, decide_eq_false (by omega)]
    rfl
  rw [this]; rfl

/-- Such a label names a dictionary. -/
theorem inside_apply (l : IVec S1024 32) (b : Fin 1024) (p : ℕ) (hp : p < 512) (hl : l (ix1 b) = BitVec.ofNat 32 p) :
    Ref.inside l (ix1 b) = 1#1 := by
  unfold Ref.inside
  pointwise
  rw [Finset.univ_unique, Finset.fold_singleton]
  have hw : Ref.wrapped l (ix2 b default) = BitVec.ofNat 32 p := wrapped_apply l b p hp hl
  rw [hw]
  have h1 : IntOp.cmpi .sge (BitVec.ofNat 32 p) 0#32 = 1#1 := by
    show BitVec.ofBool ((0#32).sle (BitVec.ofNat 32 p)) = _
    rw [BitVec.sle, toInt_small p hp]
    simp
  have h2 : IntOp.cmpi .sle (BitVec.ofNat 32 p) 511#32 = 1#1 := by
    show BitVec.ofBool ((BitVec.ofNat 32 p).sle 511#32) = _
    rw [BitVec.sle, toInt_small p hp, show (511#32).toInt = 511 from rfl, decide_eq_true (by omega)]
    rfl
  rw [h1, h2]; rfl

/-- The dictionary gathered at such a label. -/
theorem gather_apply (idx : IVec S1024x1 32) (b : Fin 1024) (i : Fin 256) (k : Fin 128) (p : ℕ) (hp : p < 512)
    (hl : idx (ix2 b 0) = BitVec.ofNat 32 p) :
    Host.gather gather_S512x256x128_S1024x1_S1024x256x128_12_0_n_n_0_1_1256128 D idx (ix3 b i k) = D (ix3 (num p) i k) := by
  unfold Host.gather
  have hsi : gather_S512x256x128_S1024x1_S1024x256x128_12_0_n_n_0_1_1256128.siIdx (ix3 b i k) ⟨0, by decide⟩ = ix2 b 0 := by
    funext a
    match a with
    | ⟨0, _⟩ => rfl
    | ⟨1, _⟩ => rfl
  refine congrArg D (funext fun a => Fin.ext ?_)
  match a with
  | ⟨0, _⟩ =>
    show min (idx (gather_S512x256x128_S1024x1_S1024x256x128_12_0_n_n_0_1_1256128.siIdx (ix3 b i k) ⟨0, _⟩)).toInt.toNat (512 - 1)
      + 0 + 0 = p % 512
    rw [hsi, hl, toInt_small p hp, Int.toNat_natCast, Nat.mod_eq_of_lt hp]
    omega
  | ⟨1, _⟩ => show 0 + 0 + i.val = i.val; omega
  | ⟨2, _⟩ => show 0 + 0 + k.val = k.val; omega

/-- The dictionary taken for such a label. -/
theorem taken_apply (l : IVec S1024 32) (b : Fin 1024) (i : Fin 256) (k : Fin 128) (p : ℕ) (hp : p < 512)
    (hl : l (ix1 b) = BitVec.ofNat 32 p) : Ref.taken D l (ix3 b i k) = D (ix3 (num p) i k) := by
  unfold Ref.taken
  pointwise
  rw [inside_apply l b p hp hl, gather_apply D _ b i k p hp (wrapped_apply l b p hp hl)]
  rfl

/-- A point projected on the dictionary its label names. -/
theorem rebuilt_apply (S : FVec Ideal S1024x256x128 .f32) (b : Fin 1024) (i : Fin 256) (p : ℕ)
    (hS : ∀ i k, S (ix3 b i k) = D (ix3 (num p) i k)) : Ref.rebuilt x S (ix2 b i) = proj x D p b i := by
  unfold Ref.rebuilt proj
  pointwise
  refine Finset.sum_congr rfl fun k _ => ?_
  rw [hS, mul_comm]
  congr 1
  exact Finset.sum_congr rfl fun i' _ => by rw [hS, mul_comm]

theorem outX_apply (b : Fin 1024) (i : Fin 256) (p : ℕ) (hp : p < 512) (hl : Ref.label x D (ix1 b) = BitVec.ofNat 32 p) :
    Ref.outX x D (ix2 b i) = proj x D p b i :=
  rebuilt_apply x D _ b i p fun i k => taken_apply D _ b i k p hp hl

end Cert.Proof.Val

end
-- ==== Proof.Equal.lean ====
/-
  The two programs' three results, over the extended reals, are the same.
-/
module

public import proofs.«01_k».proof.Proof.KernelRun
public import proofs.«01_k».proof.Proof.RefVal

@[expose] public section

set_option maxRecDepth 16384

noncomputable section

namespace Cert.Proof.Val

open Cert.KernelIdeal Cert.KernelIdeal.Gen
open Idealize.ShloMosaic Idealize.ShloMosaic.TcCoe Idealize.SL.Sem
open Cert.Proof.Block Cert.Proof.Grid Cert.Proof.Least

variable (x : Vec Ideal S1024x256 .f32) (D : Vec Ideal S512x256x128 .f32)

attribute [local irreducible] held Ref.label Ref.taken

/-- For each point the kernel ends with the row of one dictionary, the one the reference's label names. -/
theorem agree (b : Fin 1024) : ∃ p, p < 512 ∧ Row x D 0 512 b ((Ker.fin x D).dist (ix2 b 0))
    (fun i => (Ker.fin x D).proj (ix2 b i)) ((Ker.fin x D).lab (ix2 b 0)) p ∧ Ref.label x D (ix1 b) = BitVec.ofNat 32 p := by
  obtain ⟨p, hp⟩ := row_held x D b 15
  obtain ⟨q, hq, hl⟩ := label_first x D b
  have e : p = q := hp.first.unique hq
  exact ⟨p, hp.first.lt, hp, e ▸ hl⟩

/-- The reconstructions agree. -/
theorem same_points : extf .f32 (Ker.fin x D).proj bitsLt_bf16_f32 = Ref.outX x D := by
  funext j
  obtain ⟨b, i, rfl⟩ : ∃ (b : Fin 1024) (i : Fin 256), j = ix2 b i := ⟨j 0, j 1, eq_ix2 j⟩
  obtain ⟨p, hp, hr, hl⟩ := agree x D b
  rw [outX_apply x D b i p hp hl]
  exact hr.point i

/-- The labels agree. -/
theorem same_labels : shapeCast S1024 (Ker.fin x D).lab shapeCasts_S1024x1_S1024 = Ref.label x D := by
  funext j
  obtain ⟨b, rfl⟩ : ∃ b : Fin 1024, j = ix1 b := ⟨j 0, eq_ix1 j⟩
  obtain ⟨p, hp, hr, hl⟩ := agree x D b
  rw [hl, ← hr.label]
  pointwise

/-- The kernel's factor: one over the number of entries. -/
theorem factor : Ideal.ofBits .f32 0x36800000#32 = ((1 / 262144 : ℝ) : EReal) := by
  simp [Ideal.ofBits, Ideal.ieee, -EReal.coe_mul]; norm_num

/-- The reference's divisor: the number of entries. -/
theorem divisor : Ideal.ofBits .f32 0x48800000#32 = ((262144 : ℝ) : EReal) := by
  simp [Ideal.ofBits, Ideal.ieee, -EReal.coe_mul]; norm_num

/-- The squared distance a point ends with is its reconstruction's. -/
theorem dist_outX (b : Fin 1024) : (Ker.fin x D).dist (ix2 b 0)
    = ∑ i : Fin 256, (Ref.outX x D (ix2 b i) - x (ix2 b i)) * (Ref.outX x D (ix2 b i) - x (ix2 b i)) := by
  obtain ⟨p, hp, hr, hl⟩ := agree x D b
  rw [hr.dist]
  exact Finset.sum_congr rfl fun i _ => by rw [outX_apply x D b i p hp hl]

/-- The losses, as functions of what they sum. -/
theorem loss_of (d : Vec Ideal S1024x1 .f32) (r : Vec Ideal S1024x256 .f32)
    (h : ∀ b : Fin 1024, d (ix2 b 0) = ∑ i : Fin 256, (r (ix2 b i) - x (ix2 b i)) * (r (ix2 b i) - x (ix2 b i))) :
    shapeCast S_ (total d) shapeCasts_S1x1_S_ = Ref.meanLoss x r := by
  funext j
  unfold total k0_pay12 Ref.meanLoss
  pointwise
  rw [factor, divisor, Ideal.div_coe (by norm_num)]
  congr 1
  refine Finset.sum_congr rfl fun b _ => ?_
  rw [← h b]
  simp

/-- The losses agree. -/
theorem same_loss : shapeCast S_ (total (Ker.fin x D).dist) shapeCasts_S1x1_S_ = Ref.outL x D :=
  loss_of x _ _ (dist_outX x D)

end Cert.Proof.Val

end
-- ==== Proof.lean ====
/-
  The certificate: the three frames, the idealization, and the equality of the kernel's three results with the
  reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From the same arguments both programs end with the reference's three results. -/
theorem algebraic : letI := Cert.KernelIdeal.Gen.facts; letI := Cert.ReferenceIdeal.Gen.facts
    algebraic_KernelIdeal_ReferenceIdeal := by
  intro m g m' g' _ hagree
  refine ⟨fun c => Ref.outX (Grid.xin m c) (Grid.din m c), fun c => Ref.outL (Grid.xin m c) (Grid.din m c),
    fun c => Ref.label (Grid.xin m c) (Grid.din m c), θ_run_mono (Ker.run m g) fun r h c => ?_,
    θ_run_mono (Ref.run m' g') fun r h c => ?_⟩
  · exact ⟨(h c).1.trans (Val.same_points _ _), (h c).2.1.trans (Val.same_loss _ _), (h c).2.2.1.trans (Val.same_labels _ _),
      (h c).2.2.2⟩
  · have hc := h c
    rw [(hagree c).1, (hagree c).2] at hc
    refine ⟨hc.1, hc.2.1, hc.2.2.1, ?_, ?_⟩
    · exact (h c).2.2.2.1
    · exact (h c).2.2.2.2

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Ref.frame m ρ,
  trivial, algebraic⟩

end Cert.Proof

end
